-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096 : Shape := ⟨2, ![16, 4096]⟩
abbrev S8192x1024 : Shape := ⟨2, ![8192, 1024]⟩
abbrev S_ : Shape := ⟨0, ![]⟩
abbrev S16x1x4096 : Shape := ⟨3, ![16, 1, 4096]⟩
abbrev S65536x128 : Shape := ⟨2, ![65536, 128]⟩
abbrev S512x1024 : Shape := ⟨2, ![512, 1024]⟩
abbrev S4096x128 : Shape := ⟨2, ![4096, 128]⟩
abbrev S16x1024x4096 : Shape := ⟨3, ![16, 1024, 4096]⟩
abbrev S1x1x4096 : Shape := ⟨3, ![1, 1, 4096]⟩
abbrev S1x128x4096 : Shape := ⟨3, ![1, 128, 4096]⟩
abbrev S32768x128 : Shape := ⟨2, ![32768, 128]⟩
abbrev S1x1x1 : Shape := ⟨3, ![1, 1, 1]⟩
abbrev S8x128 : Shape := ⟨2, ![8, 128]⟩
abbrev S128x4096 : Shape := ⟨2, ![128, 4096]⟩

abbrev nBuf : Space → Nat
  | .hbm => 16
  | .vmem => 8
  | .smem => 2
  | _ => 0

abbrev bufTy : (tb : Table) → Fin (tcTables nBuf tb) → BufTy
  | .hbm, ⟨0, _⟩ => ⟨S16x4096, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S16x4096, .i32⟩
  | .hbm, ⟨6, _⟩ => ⟨S16x4096, .i32⟩
  | .hbm, ⟨7, _⟩ => ⟨S_, .i32⟩
  | .hbm, ⟨8, _⟩ => ⟨S16x4096, .i32⟩
  | .hbm, ⟨9, _⟩ => ⟨S16x4096, .i32⟩
  | .hbm, ⟨10, _⟩ => ⟨S_, .i32⟩
  | .hbm, ⟨11, _⟩ => ⟨S16x4096, .i32⟩
  | .hbm, ⟨12, _⟩ => ⟨S16x4096, .i32⟩
  | .hbm, ⟨13, _⟩ => ⟨S16x1x4096, .i32⟩
  | .hbm, ⟨14, _⟩ => ⟨S65536x128, .f32⟩
  | .hbm, ⟨15, _⟩ => ⟨S16x1024x4096, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S65536x128, .f32⟩
  | .local _ .vmem, ⟨5, _⟩ => ⟨S1x128x4096, .f32⟩
  | .local _ .vmem, ⟨6, _⟩ => ⟨S1x128x4096, .f32⟩
  | .local _ .vmem, ⟨7, _⟩ => ⟨S32768x128, .f32⟩
  | .local _ .smem, ⟨0, _⟩ => ⟨S1x1x4096, .i32⟩
  | .local _ .smem, ⟨1, _⟩ => ⟨S1x1x4096, .i32⟩
  | _, _ => ⟨S16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_scratch0 : Ref sig .tc := ⟨.vmem, 7, rfl⟩
abbrev cc1_stg0_0 : Ref sig .tc := ⟨.smem, 0, rfl⟩
abbrev cc1_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 8], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_4 : BitVec 32 := 0#32
  let c4096_i32 : BitVec 32 := 4096#32
  let v9 : BitVec 32 := Scalar.addi c0_i32_4 c4096_i32
  let c1_i32 : BitVec 32 := 1#32
  ⟨c0_i32_4, v9, c1_i32⟩
def k1_off1 (k1_t1 : Fin k1_t1_loop.trips) : Fin 3 → Nat :=
  let c0_6 : Index := 0#32
  let c0_7 : Index := 0#32
  let c0_i32_4 : BitVec 32 := 0#32
  let c1_i32 : BitVec 32 := 1#32
  let arg6 : BitVec 32 := Scf.iv c0_i32_4 c1_i32 k1_t1
  let v10 : Index := Scalar.indexCast arg6
  ![0, 0, v10.toNat]
def k1_off2 (v11 : BitVec 32) : Fin 2 → Nat :=
  let v12 : Index := Scalar.indexCast v11
  let c0_8 : Index := 0#32
  ![v12.toNat, 0]

def k1_chk1 (i : grid1.Coords) (v11 : BitVec 32) : Prop :=
  (∀ (k1_h1 : k1_cond1 i = 1#1), ∀ a, (k1_off2 v11) a + S8x128.size a ≤ S65536x128.size a)
theorem k1_off2_inb : ∀ (i : grid1.Coords) (v11 : BitVec 32) (k1_hw1 : k1_chk1 i v11), ∀ (k1_h1 : k1_cond1 i = 1#1), ∀ a, (k1_off2 v11) a + S8x128.size a ≤ S65536x128.size a := fun i v11 k1_hw1 k1_h1 => k1_hw1 k1_h1

def k1_off3 (k1_t1 : Fin k1_t1_loop.trips) : Fin 2 → Nat :=
  let c8_i32 : BitVec 32 := 8#32
  let c0_i32_4 : BitVec 32 := 0#32
  let c1_i32 : BitVec 32 := 1#32
  let arg6 : BitVec 32 := Scf.iv c0_i32_4 c1_i32 k1_t1
  let v15 : BitVec 32 := Scalar.muli c8_i32 arg6
  let v16 : Index := Scalar.indexCast v15
  let c0_9 : Index := 0#32
  ![v16.toNat, 0]
def k1_off4 (i : grid1.Coords) : Fin 2 → Nat :=
  let arg1 : BitVec 32 := BitVec.ofNat 32 (i 1).val
  let v3 : Index := Scalar.indexCast arg1
  let c0 : Index := 0#32
  ![v3.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .smem S1x1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S65536x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S16x4096 : Shape := ⟨2, ![16, 4096]⟩
abbrev S8192x1024 : Shape := ⟨2, ![8192, 1024]⟩
abbrev S_ : Shape := ⟨0, ![]⟩
abbrev S16x4096x1 : Shape := ⟨3, ![16, 4096, 1]⟩
abbrev S1 : Shape := ⟨1, ![1]⟩
abbrev S1x1x1 : Shape := ⟨3, ![1, 1, 1]⟩
abbrev S16x4096x1024 : Shape := ⟨3, ![16, 4096, 1024]⟩
abbrev S16x1024x4096 : Shape := ⟨3, ![16, 1024, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S16x4096, .i32⟩
  | .hbm, ⟨6, _⟩ => ⟨S16x4096, .i32⟩
  | .hbm, ⟨7, _⟩ => ⟨S_, .i32⟩
  | .hbm, ⟨8, _⟩ => ⟨S16x4096, .i32⟩
  | .hbm, ⟨9, _⟩ => ⟨S16x4096, .i32⟩
  | .hbm, ⟨10, _⟩ => ⟨S_, .i32⟩
  | .hbm, ⟨11, _⟩ => ⟨S16x4096, .i32⟩
  | .hbm, ⟨12, _⟩ => ⟨S16x4096, .i1⟩
  | .hbm, ⟨13, _⟩ => ⟨S_, .i32⟩
  | .hbm, ⟨14, _⟩ => ⟨S16x4096, .i32⟩
  | .hbm, ⟨15, _⟩ => ⟨S16x4096, .i32⟩
  | .hbm, ⟨16, _⟩ => ⟨S16x4096, .i32⟩
  | .hbm, ⟨17, _⟩ => ⟨S16x4096x1, .i32⟩
  | .hbm, ⟨18, _⟩ => ⟨S1, .i32⟩
  | .hbm, ⟨19, _⟩ => ⟨S_, .i32⟩
  | .hbm, ⟨20, _⟩ => ⟨S16x4096x1, .i32⟩
  | .hbm, ⟨21, _⟩ => ⟨S16x4096x1, .i1⟩
  | .hbm, ⟨22, _⟩ => ⟨S1x1x1, .i32⟩
  | .hbm, ⟨23, _⟩ => ⟨S16x4096x1, .i32⟩
  | .hbm, ⟨24, _⟩ => ⟨S16x4096x1, .i1⟩
  | .hbm, ⟨25, _⟩ => ⟨S16x4096x1, .i1⟩
  | .hbm, ⟨26, _⟩ => ⟨S_, .i1⟩
  | .hbm, ⟨27, _⟩ => ⟨S16x4096, .i1⟩
  | .hbm, ⟨28, _⟩ => ⟨S16x4096x1024, .f32⟩
  | .hbm, ⟨29, _⟩ => ⟨S16x4096x1024, .i1⟩
  | .hbm, ⟨30, _⟩ => ⟨S_, .f32⟩
  | .hbm, ⟨31, _⟩ => ⟨S16x4096x1024, .f32⟩
  | .hbm, ⟨32, _⟩ => ⟨S16x4096x1024, .f32⟩
  | .hbm, ⟨33, _⟩ => ⟨S16x1024x4096, .f32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_v14 : Ref sig .tc := ⟨.hbm, 29, rfl⟩
abbrev main_call1_cst : Ref sig .tc := ⟨.hbm, 30, rfl⟩
abbrev main_call1_v15 : Ref sig .tc := ⟨.hbm, 31, rfl⟩
abbrev main_v1 : Ref sig .tc := ⟨.hbm, 32, rfl⟩
abbrev main_v2 : Ref sig .tc := ⟨.hbm, 33, rfl⟩

abbrev nD : Nat := 1
abbrev τ : Topo := Topo.v7x

variable {F : FTy → Type} [FloatOps F]
-- ==== Proof.Table.lean ====
/-
  The mathematics of the kernel, with no memory in it: what the gathered table of one batch row is, and when the words
  that steer the gather are in range.
-/
module

public import Idealize.ShloMosaic.Lib.ValueIdxCore
public import Idealize.ShloMosaic.Lib.Pointwise.Index

@[expose] public section

namespace Cert.Codebook

open Idealize.ShloMosaic

/-- The shapes of one batch row's words, of the table of eighth-rows, and of the gathered table. -/
abbrev SWords : Shape := ⟨3, ![1, 1, 4096]⟩
abbrev STable : Shape := ⟨2, ![65536, 128]⟩
abbrev SGather : Shape := ⟨2, ![32768, 128]⟩

/-- Every word names eight consecutive rows inside the table. -/
def WordsOk (x : SWords.Idx → BitVec 32) : Prop := ∀ y, (x y).toNat + 8 ≤ 65536

/-- The gathered table: its rows `8 k … 8 k + 7` are the eight rows of the table `t` that start at the `k`-th word of
    `x` (read modulo the table's height, which matters for no word in range). -/
def gathered {α : Type} (x : SWords.Idx → BitVec 32) (t : STable.Idx → α) : SGather.Idx → α := fun y =>
  t (ix2 ⟨((x (ix3 0 0 ⟨(y 0).val / 8, by have := ValueIdx.idx2_lt0 y; omega⟩)).toNat + (y 0).val % 8) % 65536,
    Nat.mod_lt _ (by norm_num)⟩ (y 1))

/-- A row of the gathered table at a word in range: no reduction modulo the height. -/
theorem gathered_apply {α : Type} {x : SWords.Idx → BitVec 32} (hx : WordsOk x) (t : STable.Idx → α)
    (y : SGather.Idx) (k : Fin 4096) (hk : (y 0).val / 8 = k.val) (z : STable.Idx)
    (hz0 : (z 0).val = (x (ix3 0 0 k)).toNat + (y 0).val % 8) (hz1 : (z 1).val = (y 1).val) :
    gathered x t y = t z := by
  have hkk : (⟨(y 0).val / 8, by have := ValueIdx.idx2_lt0 y; omega⟩ : Fin 4096) = k := Fin.ext hk
  unfold gathered
  have h8 : (y 0).val % 8 < 8 := Nat.mod_lt _ (by norm_num)
  have hw := hx (ix3 0 0 k)
  congr 1
  funext a
  match a with
  | ⟨0, _⟩ =>
    refine Fin.ext ?_
    show ((x (ix3 0 0 ⟨(y 0).val / 8, by have := ValueIdx.idx2_lt0 y; omega⟩)).toNat + (y 0).val % 8) % 65536 = (z 0).val
    rw [hkk, Nat.mod_eq_of_lt (by omega), hz0]
  | ⟨1, _⟩ => exact Fin.ext hz1.symm

end Cert.Codebook
-- ==== Proof.GatherLoop.lean ====
/-
  The loop of the gather kernel: before its trip `k` the scratch holds, in its first `8 k` rows, the gathered table.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Table
public import Idealize.ShloMosaic.Lib.WritesUnit
public import Idealize.ShloMosaic.Lib.Pipeline.Value

@[expose] public section

noncomputable section

namespace Cert.Codebook

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the rounds of the pipelines' staging buffers, nothing beside. -/
abbrev UU (nD : Nat) (τ : Topo) : Type := UR sig nD τ
/-- No variants: the program has no unbounded loop. -/
abbrev 𝒱₀ : Variants := Variants.none

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A word naming eight rows inside the table satisfies the side condition the body assumes of it. -/
theorem chk_of_word (i : grid1.Coords) (v : BitVec 32) (h : v.toNat + 8 ≤ 65536) : k1_chk1 i v := by
  intro _ a
  have e : k1_off2 v = ![v.toNat, 0] := rfl
  rw [e]
  fin_cases a
  · exact h
  · show 0 + 128 ≤ 128; omega

section Loop

variable (c : Dev nD) (i : grid1.Coords)
  (arg2 : Memref sig .tc .smem S1x1x4096 .i32) (harg2 : arg2.IsWhole)
  (arg3 : Memref sig .tc .vmem S65536x128 .f32) (harg3 : arg3.IsWhole)
  (arg4 : Memref sig .tc .vmem S1x128x4096 .f32) (harg4 : arg4.IsWhole)
  (arg5 : Memref sig .tc .vmem S32768x128 .f32) (harg5 : arg5.IsWhole)
  (k1_h1 : k1_cond1 i = 1#1)
  (X2 : Bf (F := F) c arg2) (X3 : Bf (F := F) c arg3)

/-- The scratch's contents agree with the gathered table on the first `8 k` rows. -/
def Filled (k : ℕ) (f : Bf (F := F) c arg5) : Prop :=
  ∀ y : S32768x128.Idx, (y 0).val < 8 * k →
    arg5.view.read (Elt F) f y = gathered (arg2.view.read (Elt F) X2) (arg3.view.read (Elt F) X3) y

/-- What the loop holds before trip `k`. -/
abbrev loopAt (k : ℕ) : sProp 𝕄 :=
  iprop(pt c arg2 X2 ∗ pt c arg3 X3 ∗ ∃ f, pt c arg5 f ∗ ⌜Filled c arg2 arg3 arg5 X2 X3 k f⌝)

/-- One trip's store: the eight rows at word `k` of the table, written at rows `8 k … 8 k + 7` of a scratch filled up
    to there, fill it one step further. -/
theorem filled_succ (hw : WordsOk (arg2.view.read (Elt F) X2)) (k : Fin k1_t1_loop.trips) (f : Bf (F := F) c arg5)
    (hf : Filled c arg2 arg3 arg5 X2 X3 k.val f) (v : BitVec 32)
    (hv : v = arg2.view.read (Elt F) X2 (ix3 0 0 ⟨k.val, Nat.lt_of_lt_of_le k.isLt k1_t1_abs.2.1⟩))
    (inb3 : ∀ a, k1_off2 v a + S8x128.size a ≤ S65536x128.size a)
    (inb5 : ∀ a, k1_off3 k a + S8x128.size a ≤ S32768x128.size a) :
    Filled c arg2 arg3 arg5 X2 X3 (k.val + 1)
      (arg5.view.writes (Elt F) f
        [⟨Rect.unit (s := S32768x128) (k1_off3 k) S8x128.size inb5,
          k1_pay1 (F := F) (View.readAt (Elt F) arg3.view (Rect.unit (s := S65536x128) (k1_off2 v) S8x128.size inb3).toLoadRect X3)⟩]) := by
  intro y hy
  have hk : k.val < 4096 := Nat.lt_of_lt_of_le k.isLt k1_t1_abs.2.1
  by_cases hlt : (y 0).val < 8 * k.val
  · rw [View.read_writes_cons_unit_of_not_mem arg5.view f inb5 _ [] y (k1_off3_eq k) 0 (Or.inl hlt), View.writes_nil]
    exact hf y hlt
  · have hy1 := ValueIdx.idx2_lt1 y
    refine (View.read_writes_cons_unit_of_mem arg5.view f inb5 _ [] y
      (ix2 (⟨(y 0).val - 8 * k.val, by omega⟩ : Fin 8) (y 1)) (k1_off3_eq k) ?_).trans ?_
    · intro a
      fin_cases a
      · show (y 0).val = 8 * k.val + ((y 0).val - 8 * k.val); omega
      · show (y 1).val = 0 + (y 1).val; omega
    · unfold k1_pay1
      rw [shapeCast_self, shapeCast_self, View.readAt_apply]
      refine (gathered_apply hw _ y ⟨k.val, hk⟩ ?_ _ ?_ ?_).symm
      · show (y 0).val / 8 = k.val; omega
      · show v.toNat + 1 * ((y 0).val - 8 * k.val) = _
        rw [← hv]; omega
      · show 0 + 1 * (y 1).val = (y 1).val; omega

/-- One trip: it reads word `k`, and copies the eight rows of the table it names. -/
theorem trip (hw : WordsOk (arg2.view.read (Elt F) X2)) (k : Fin k1_t1_loop.trips) (acc : Unit) :
    loopAt c arg2 arg3 arg5 X2 X3 k.val ⊢
      wp frame (wpE (defs₀ (F := F)) 𝒱₀ (c : Thread nD τ) none) Set.univ
        (k1_t1_body (F := F) i arg2 harg2 arg3 harg3 arg4 harg4 arg5 harg5 k1_h1 k acc)
        (fun _ => loopAt c arg2 arg3 arg5 X2 X3 (k.val + 1)) := by
  unfold k1_t1_body
  iintro ⟨H2, H3, ⟨%f, H5, %hf⟩⟩
  sl_exec (disch := exact chk_of_word _ _ (hw _))
  sl_step
  isplitl [H2]; · iexact H2
  isplitl [H3]; · iexact H3
  iexists _
  isplitl [H5]; · iexact H5
  ipureintro
  refine filled_succ c arg2 arg3 arg5 X2 X3 hw k f hf _ ?_ _ _
  unfold trip.sl.r
  rw [View.readAt_apply]
  congr 1
  funext a
  refine Fin.ext ?_
  rw [LoadRect.idx_apply]
  fin_cases a
  · rfl
  · rfl
  · show k1_off1 k 2 + 1 * 0 = k.val
    rw [k1_off1_eq]; rfl

/-- The loop's invariant. -/
@[instance_reducible] def loopInv (hw : WordsOk (arg2.view.read (Elt F) X2)) :
    LoopInvTy_k1_t1 (F := F) Unit ℕ (UU nD τ) ℕ 𝒱₀ c none Set.univ i arg2 harg2 arg3 harg3 arg4 harg4 arg5 harg5 k1_h1 where
  inv k _ := loopAt c arg2 arg3 arg5 X2 X3 k
  step k acc := trip c i arg2 harg2 arg3 harg3 arg4 harg4 arg5 harg5 k1_h1 X2 X3 hw k acc

end Loop

end Cert.Codebook
-- ==== Proof.GatherBody.lean ====
/-
  The whole body of the gather kernel at one grid point: at the first of a batch row's eight points it fills the scratch
  with the row's gathered table; at every point it writes out one eighth of the scratch, transposed.
-/
module

public import proofs.«01_k».proof.Proof.GatherLoop
public import Idealize.ShloMosaic.Lib.VecWindow

@[expose] public section

noncomputable section

namespace Cert.Codebook

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The strided load of the body: rows `s, s + 8, s + 16, …` of the scratch, `s` the point's second coordinate. -/
abbrev strided (i : grid1.Coords) : LoadRect S32768x128 := ⟨k1_off4 i, S4096x128.size, ![8, 1], k1_off4_inb i⟩

/-- What the point writes out of a scratch that reads as `G`: its eighth, transposed. -/
def outBlock (i : grid1.Coords) (G : Vec F S32768x128 .f32) : Vec F S1x128x4096 .f32 :=
  k1_pay2 (F := F) fun y => G ((strided i).idx y)

variable (c : Dev nD) (i : grid1.Coords)
  (arg2 : Memref sig .tc .smem S1x1x4096 .i32) (harg2 : arg2.IsWhole)
  (arg3 : Memref sig .tc .vmem S65536x128 .f32) (harg3 : arg3.IsWhole)
  (arg4 : Memref sig .tc .vmem S1x128x4096 .f32) (harg4 : arg4.IsWhole)
  (arg5 : Memref sig .tc .vmem S32768x128 .f32) (harg5 : arg5.IsWhole)
  (X2 : Bf (F := F) c arg2) (X3 : Bf (F := F) c arg3)

/-- The gathered table of what the two inputs hold. -/
abbrev tableOf : Vec F S32768x128 .f32 := gathered (arg2.view.read (Elt F) X2) (arg3.view.read (Elt F) X3)

/-- What the body leaves: the inputs as they were, the output block written, the scratch holding the gathered table. -/
abbrev bodyPost : sProp 𝕄 :=
  iprop(pt c arg2 X2 ∗ pt c arg3 X3
    ∗ (∃ g, pt c arg4 g ∗ ⌜arg4.view.read (Elt F) g = outBlock i (tableOf c arg2 arg3 X2 X3)⌝)
    ∗ ∃ f, pt c arg5 f ∗ ⌜arg5.view.read (Elt F) f = tableOf c arg2 arg3 X2 X3⌝)

/-- The store of the output block, from a scratch that reads as the gathered table. -/
theorem read_stored (g : Bf (F := F) c arg4) (f : Bf (F := F) c arg5)
    (hf : arg5.view.read (Elt F) f = tableOf c arg2 arg3 X2 X3) :
    arg4.view.read (Elt F) (arg4.view.writes (Elt F) g
      [⟨Rect.unit (s := S1x128x4096) ![0, 0, 0] S1x128x4096.size inb_S1x128x4096_S1x128x4096_0_0_0,
        k1_pay2 (F := F) (View.readAt (Elt F) arg5.view (strided i) f)⟩])
      = outBlock i (tableOf c arg2 arg3 X2 X3) := by
  rw [← hf]
  exact View.read_writes_full arg4.view g _ _ []

set_option maxHeartbeats 4000000 in
/-- The body at a batch row's first point: the scratch at anything. -/
theorem body_first (hw : WordsOk (arg2.view.read (Elt F) X2)) (h : k1_cond1 i = 1#1)
    (g : Bf (F := F) c arg4) (f : Bf (F := F) c arg5) :
    iprop(pt c arg2 X2 ∗ pt c arg3 X3 ∗ pt c arg4 g ∗ pt c arg5 f) ⊢
      wp frame (wpE (defs₀ (F := F)) 𝒱₀ (c : Thread nD τ) none) Set.univ
        (cc1__gather_body (F := F) i arg2 harg2 arg3 harg3 arg4 harg4 arg5 harg5)
        (fun _ => bodyPost c i arg2 arg3 arg4 arg5 X2 X3) := by
  rw [cc1__gather_body_eq_skeleton]
  unfold cc1__gather_body_skel
  rw [dif_pos h]
  iintro ⟨H2, H3, H4, H5⟩
  let L := loopInv c i arg2 harg2 arg3 harg3 arg4 harg4 arg5 harg5 h X2 X3 hw
  have h0 : Filled c arg2 arg3 arg5 X2 X3 0 f := fun y hy => absurd hy (by omega)
  sl_exec
  sl_step
  have hf : arg5.view.read (Elt F) fL0 = tableOf c arg2 arg3 X2 X3 := funext fun y => hL3 y (by
    have hy := ValueIdx.idx2_lt0 y
    have ht : Scf.trips k1_t1_loop.lb k1_t1_loop.ub k1_t1_loop.st = 4096 := by decide
    omega)
  isplitl [H2]; · iexact H2
  isplitl [H3]; · iexact H3
  isplitl [H4]
  · iexists _
    isplitl [H4]; · iexact H4
    ipureintro; exact read_stored c i arg2 arg3 arg4 arg5 X2 X3 g fL0 hf
  · iexists _
    isplitl [H5]; · iexact H5
    ipureintro; exact hf

set_option maxHeartbeats 4000000 in
/-- The body at a later point of the batch row: the scratch still holds the gathered table. -/
theorem body_later (h : ¬ k1_cond1 i = 1#1)
    (g : Bf (F := F) c arg4) (f : Bf (F := F) c arg5) (hf : arg5.view.read (Elt F) f = tableOf c arg2 arg3 X2 X3) :
    iprop(pt c arg2 X2 ∗ pt c arg3 X3 ∗ pt c arg4 g ∗ pt c arg5 f) ⊢
      wp frame (wpE (defs₀ (F := F)) 𝒱₀ (c : Thread nD τ) none) Set.univ
        (cc1__gather_body (F := F) i arg2 harg2 arg3 harg3 arg4 harg4 arg5 harg5)
        (fun _ => bodyPost c i arg2 arg3 arg4 arg5 X2 X3) := by
  rw [cc1__gather_body_eq_skeleton]
  unfold cc1__gather_body_skel
  rw [dif_neg h]
  iintro ⟨H2, H3, H4, H5⟩
  sl_exec
  sl_step
  isplitl [H2]; · iexact H2
  isplitl [H3]; · iexact H3
  isplitl [H4]
  · iexists _
    isplitl [H4]; · iexact H4
    ipureintro; exact read_stored c i arg2 arg3 arg4 arg5 X2 X3 g f hf
  · iexists _
    isplitl [H5]; · iexact H5
    ipureintro; exact hf

end Cert.Codebook
-- ==== Proof.Blocks.lean ====
/-
  Where the blocks of the two kernels lie in their arrays, point by point.
-/
module

public import proofs.«01_k».proof.Proof.GatherBody
public import proofs.«01_k».proof.Proof.Gen.KernelIdeal.Points
public import Idealize.ShloMosaic.Lib.Pipeline.ValueKit

@[expose] public section

noncomputable section

namespace Cert.Codebook

open Cert.KernelIdeal Cert.KernelIdeal.Gen
open Idealize.ShloMosaic Idealize.ShloMosaic.TcCoe Idealize.ShloMosaic.Tactic
open Idealize.SL Idealize.SL.Sem

variable {F : FTy → Type} [FloatOps F]

/-- Point `t` of the first kernel reads block row `t` of the table. -/
theorem index0_0 : ∀ t : Fin cfg0.N, win0_0.index t = ![t.val, 0] := (by decide +kernel : ∀ t : Fin grid0.N, _)
/-- Point `t` of the first kernel writes block row `t` of its result. -/
theorem index0_1 : ∀ t : Fin cfg0.N, win0_1.index t = ![t.val, 0] := (by decide +kernel : ∀ t : Fin grid0.N, _)
/-- Point `t` of the second kernel reads the words of batch row `t / 8`. -/
theorem index1_0 : ∀ t : Fin cfg1.N, win1_0.index t = ![t.val / 8, 0, 0] := (by decide +kernel : ∀ t : Fin grid1.N, _)
/-- Every point of the second kernel reads the whole table. -/
theorem index1_1 : ∀ t : Fin cfg1.N, win1_1.index t = ![0, 0] := (by decide +kernel : ∀ t : Fin grid1.N, _)
/-- Point `t` of the second kernel writes block `t % 8` of batch row `t / 8`. -/
theorem index1_2 : ∀ t : Fin cfg1.N, win1_2.index t = ![t.val / 8, t.val % 8, 0] := (by decide +kernel : ∀ t : Fin grid1.N, _)
/-- The second coordinate of point `t` of the second kernel is `t % 8`. -/
theorem coord1_1 : ∀ t : Fin cfg1.N, (grid1.coords t 1).val = t.val % 8 := (by decide +kernel : ∀ t : Fin grid1.N, _)
/-- The points of the second kernel that fill the scratch are the first of each eight. -/
theorem cond1_iff : ∀ t : Fin cfg1.N, k1_cond1 (grid1.coords t) = 1#1 ↔ t.val % 8 = 0 := (by decide +kernel : ∀ t : Fin grid1.N, _)

/-- The words of point `t`, one by one. -/
theorem words_apply (X : (cfg1.win 0).arr.view.ty.Contents (Elt F)) (t : Fin cfg1.N) (y : S1x1x4096.Idx) (h : t.val / 8 < 16) :
    (((cfg1.win 0).blk t).view.read (Elt F) X : Vec F S1x1x4096 .i32) y = X (ix3 ⟨t.val / 8, h⟩ 0 (y 2)) := by
  blk_ext [index1_0 t]

/-- The table of every point is the whole of it. -/
theorem table_read (X : (cfg1.win 1).arr.view.ty.Contents (Elt F)) (t : Fin cfg1.N) :
    (((cfg1.win 1).blk t).view.read (Elt F) X : Vec F S65536x128 .f32) = X := by
  funext y
  blk_ext [index1_1 t]

/-- The block of the table that the first kernel reads at point `t`, entry by entry. -/
theorem block0_apply (X : (cfg0.win 0).arr.view.ty.Contents (Elt F)) (t : Fin cfg0.N) (y : S512x1024.Idx)
    (h : t.val * 512 + (y 0).val < 8192) :
    (((cfg0.win 0).blk t).view.read (Elt F) X : Vec F S512x1024 .f32) y = X (ix2 ⟨t.val * 512 + (y 0).val, h⟩ (y 1)) := by
  blk_ext [index0_0 t]

end Cert.Codebook
-- ==== Proof.RelayoutBody.lean ====
/-
  The body of the first kernel at one grid point: it stores its input block, the same words laid out as rows of 128.
-/
module

public import proofs.«01_k».proof.Proof.GatherLoop
public import Idealize.ShloMosaic.Lib.VecWindow

@[expose] public section

noncomputable section

namespace Cert.Codebook

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords)
  (arg1 : Memref sig .tc .vmem S512x1024 .f32) (harg1 : arg1.IsWhole)
  (arg2 : Memref sig .tc .vmem S4096x128 .f32) (harg2 : arg2.IsWhole)

/-- The body leaves its input as it was, and in its output the input's block laid out as rows of 128. -/
theorem relayout_body (X : Bf (F := F) c arg1) (g : Bf (F := F) c arg2) :
    iprop(pt c arg1 X ∗ pt c arg2 g) ⊢
      wp frame (wpE (defs₀ (F := F)) 𝒱₀ (c : Thread nD τ) none) Set.univ
        (cc0__relayout_body (F := F) i arg1 harg1 arg2 harg2)
        (fun _ => iprop(pt c arg1 X
          ∗ ∃ g', pt c arg2 g' ∗ ⌜arg2.view.read (Elt F) g' = k0_pay1 (arg1.view.read (Elt F) X)⌝)) := by
  rw [cc0__relayout_body_eq_skeleton]
  unfold cc0__relayout_body_skel
  iintro ⟨H1, H2⟩
  sl_exec
  sl_step
  isplitl [H1]; · iexact H1
  iexists _
  isplitl [H2]; · iexact H2
  ipureintro
  rw [show View.readAt (Elt F) arg1.view _ X = arg1.view.read (Elt F) X from View.readAt_full arg1.view X _]
  exact View.read_writes_full arg2.view g _ _ []

end Cert.Codebook
-- ==== Proof.RelayoutRegion.lean ====
/-
  The first kernel's region: entered from any contents of the arrays, every point turns one block of 512 rows of the
  table into 4096 rows of 128.
-/
module

public import proofs.«01_k».proof.Proof.RelayoutBody
public import proofs.«01_k».proof.Proof.Gen.KernelIdeal.Points
public import Idealize.ShloMosaic.Lib.Pipeline.Regions
public import Idealize.ShloMosaic.Lib.Pipeline.RegionArraysS

@[expose] public section

noncomputable section

namespace Cert.Codebook

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

omit [FloatOps F] in
/-- A whole buffer owned at `X` is its points-to at some contents that read as `X`. -/
theorem owns_pt (c : Dev nD) {sp : Space} {S : Shape} {e : EltTy} (M : Memref sig .tc sp S e) (hM : M.IsWhole)
    (X : S.Idx → Elt F e) :
    (owns (c : Thread nD τ) M fullShare X : sProp 𝕄) = iprop(∃ f, ⌜M.view.read (Elt F) f = X⌝ ∗ pt c M f) := by
  unfold owns; rw [hM.set_eq_univ]

variable (V : Dev nD → Valuation τ sig (Elt F))

/-- The block of the table that point `t` is given. -/
abbrev tableBlock (c : Dev nD) (t : Fin cfg0.N) : Vec F S512x1024 .f32 :=
  ((cfg0.win 0).blk t).view.read (Elt F) (V c (Proc.devRef .tc main_arg1))

/-- The scoped buffers the first kernel does not use, each at some contents. -/
abbrev rest0 (c : Dev nD) : sProp 𝕄 :=
  Pipeline.scopedRest (Ix := Unit) (Name := ℕ) (U := UU nD τ) (Lvl := ℕ) (Val := Elt F) spec0 c

/-- The first region's proof data: the arrays as found; after point `t` the input's buffer holds its block, the
    output's the block laid out as rows of 128; nothing owed. -/
def dat0 (c : Dev nD) : Dat τ (Elt F) Unit ℕ (UU nD τ) ℕ cfg0 c where
  A w := V c (Proc.devRef .tc (Pipeline.arrRef spec0 w))
  after w t := match w with
    | ⟨0, _⟩ => tableBlock V c t
    | ⟨1, _⟩ => k0_pay1 (tableBlock V c t)
  Φ _ := rest0 c
  q _ := fullShare
  owed _ := 0

/-- At every point the input's buffer holds its block of the table. -/
theorem before0_0 (c : Dev nD) (t : Fin cfg0.N) (d : (cfg0.win 0).block.Idx → Elt F (cfg0.win 0).elt) :
    (dat0 V c).before 0 t d = tableBlock V c t := by
  unfold Dat.before; rw [if_pos (fetch0_0 t)]; rfl

/-- Every point of the first region does what the proof data say. -/
theorem obligation0 (c : Dev nD) : BodyObligation (dat0 V c) (defs₀ (F := F)) 𝒱₀ () Set.univ := fun t => by
  rw [bigSep_W0, bigSep_W0]
  have e0 := owns_pt (F := F) c (st0_0 t) (hstage0_0 ((cfg0.slots t 0).cast nbuf0_0))
  have e1 := owns_pt (F := F) c (st0_1 t) (hstage0_1 ((cfg0.slots t 1).cast nbuf0_1))
  simp only [e0, e1]
  rw [show (dat0 V c).Φ t.castSucc = rest0 c from rfl, show (dat0 V c).Φ t.succ = rest0 c from rfl,
    show (dat0 V c).owesAt () t.succ = (dat0 V c).owesAt () t.castSucc from rfl]
  iintro ⟨HΦ, Howes, ⟨%d0, %f0, %hf0, H0⟩, ⟨%d1, %f1, -, H1⟩⟩
  rw [before0_0] at hf0
  have hb := relayout_body c (grid0.coords t) (win0_0.stage (cfg0.slots t 0)) (hstage0_0 ((cfg0.slots t 0).cast nbuf0_0))
    (win0_1.stage (cfg0.slots t 1)) (hstage0_1 ((cfg0.slots t 1).cast nbuf0_1)) f0 f1
  iapply (wp_wand_r _ _ _)
  isplitl [H0 H1]
  · iapply hb
    isplitl [H0] <;> iassumption
  iintro %a ⟨H0, %g', H1, %hg⟩
  isplitl [HΦ]; · iexact HΦ
  isplitl [Howes]; · iexact Howes
  isplitl [H0]
  · iexists _; isplitr; swap; (· iexact H0); ipureintro; exact hf0
  iexists _; isplitr; swap; (· iexact H1); ipureintro; exact hg.trans (congrArg k0_pay1 hf0)

end Cert.Codebook
-- ==== Proof.GatherRegion.lean ====
/-
  The second kernel's region: entered from any contents of the arrays whose words name rows of the table, each of its
  points writes one eighth of a batch row's gathered table, transposed; the scratch carries that table from the first
  of the batch row's eight points to the last.
-/
module

public import proofs.«01_k».proof.Proof.Blocks
public import proofs.«01_k».proof.Proof.RelayoutRegion

@[expose] public section

noncomputable section

namespace Cert.Codebook

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : Dev nD → Valuation τ sig (Elt F))

/-- The words that point `t` is given: its batch row's. -/
def words (c : Dev nD) (t : Fin cfg1.N) : Vec F S1x1x4096 .i32 :=
  ((cfg1.win 0).blk t).view.read (Elt F) (V c (Proc.devRef .tc main_v3))

/-- The table that point `t` is given: the whole of it. -/
def table (c : Dev nD) (t : Fin cfg1.N) : Vec F S65536x128 .f32 :=
  ((cfg1.win 1).blk t).view.read (Elt F) (V c (Proc.devRef .tc main_v4))

/-- The gathered table of point `t`'s batch row. -/
def tableAt (c : Dev nD) (t : Fin cfg1.N) : Vec F S32768x128 .f32 := gathered (words V c t) (table V c t)

/-- Two points of one batch row have the same gathered table. -/
theorem tableAt_congr (c : Dev nD) (t t' : Fin cfg1.N) (h : t.val / 8 = t'.val / 8) : tableAt V c t = tableAt V c t' := by
  have ht : t.val < 128 := t.isLt.trans_eq N_1
  have ht' : t'.val < 128 := t'.isLt.trans_eq N_1
  refine congrArg₂ gathered (funext fun y => ?_) ((table_read _ t).trans (table_read _ t').symm)
  unfold words
  rw [words_apply _ t y (by omega), words_apply _ t' y (by omega)]
  congr 2
  exact Fin.ext h

/-- The scoped buffers the second kernel does not use, each at some contents. -/
abbrev rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The scratch of the second kernel. -/
abbrev scratch : Memref sig .tc .vmem S32768x128 .f32 := Memref.whole cc1_scratch0

/-- The scratch's contents as point `n` finds them: inside a batch row, its gathered table. -/
def Holds (c : Dev nD) (n : ℕ) (f : Bf (F := F) c scratch) : Prop :=
  ∀ t : Fin cfg1.N, t.val = n → t.val % 8 ≠ 0 → scratch.view.read (Elt F) f = tableAt V c t

/-- What holds between the points: the unused buffers, and the scratch at contents as `Holds` says. -/
def between (c : Dev nD) (n : ℕ) : sProp 𝕄 := iprop(rest1 c ∗ ∃ f, pt c scratch f ∗ ⌜Holds V c n f⌝)

/-- The second region's proof data: the arrays as found; after point `t` the inputs' buffers hold their blocks, the
    output's its eighth of the gathered table; nothing owed. -/
def dat1 (c : Dev nD) : Dat τ (Elt F) Unit ℕ (UU nD τ) ℕ cfg1 c where
  A w := V c (Proc.devRef .tc (Pipeline.arrRef spec1 w))
  after w t := match w with
    | ⟨0, _⟩ => words V c t
    | ⟨1, _⟩ => table V c t
    | ⟨2, _⟩ => outBlock (grid1.coords t) (tableAt V c t)
  Φ n := between V c n.val
  q _ := fullShare
  owed _ := 0

/-- At every point the words' buffer holds the batch row's words. -/
theorem before1_0 (c : Dev nD) (t : Fin cfg1.N) (d : (cfg1.win 0).block.Idx → Elt F (cfg1.win 0).elt) :
    (dat1 V c).before 0 t d = words V c t :=
  (dat1 V c).before_in_eq_fetched 0 rfl (fun _ => rfl) (fun _ _ _ => rfl) (fun _ => rfl) t d

/-- At every point the table's buffer holds the table. -/
theorem before1_1 (c : Dev nD) (t : Fin cfg1.N) (d : (cfg1.win 1).block.Idx → Elt F (cfg1.win 1).elt) :
    (dat1 V c).before 1 t d = table V c t :=
  (dat1 V c).before_in_eq_fetched 1 rfl (fun _ => rfl) (fun _ _ _ => rfl) (fun _ => rfl) t d

/-- The body at any point: the scratch as `Holds` says before it. -/
theorem gather_body (c : Dev nD) (t : Fin cfg1.N) (hw : WordsOk (words V c t))
    (f2 : Bf (F := F) c (st1_0 t)) (h2 : (st1_0 t).view.read (Elt F) f2 = words V c t)
    (f3 : Bf (F := F) c (st1_1 t)) (h3 : (st1_1 t).view.read (Elt F) f3 = table V c t)
    (g : Bf (F := F) c (st1_2 t)) (f : Bf (F := F) c scratch) (hf : Holds V c t.val f) :
    iprop(pt c (st1_0 t) f2 ∗ pt c (st1_1 t) f3 ∗ pt c (st1_2 t) g ∗ pt c scratch f) ⊢
      wp frame (wpE (defs₀ (F := F)) 𝒱₀ (c : Thread nD τ) none) Set.univ (bodyAt1 (F := F) t)
        (fun _ => bodyPost c (grid1.coords t) (st1_0 t) (st1_1 t) (st1_2 t) scratch f2 f3) := by
  by_cases h : t.val % 8 = 0
  · exact body_first c (grid1.coords t) (st1_0 t) (hstage1_0 _) (st1_1 t) (hstage1_1 _) (st1_2 t) (hstage1_2 _) scratch
      (Memref.isWhole_whole _) f2 f3 (h2 ▸ hw) ((cond1_iff t).mpr h) g f
  · exact body_later c (grid1.coords t) (st1_0 t) (hstage1_0 _) (st1_1 t) (hstage1_1 _) (st1_2 t) (hstage1_2 _) scratch
      (Memref.isWhole_whole _) f2 f3 (mt (cond1_iff t).mp h) g f (by
        rw [hf t rfl h]; unfold tableOf tableAt; rw [h2, h3])

/-- Every point of the second region does what the proof data say. -/
theorem obligation1 (hw : ∀ c t, WordsOk (words V c t)) (c : Dev nD) :
    BodyObligation (dat1 V c) (defs₀ (F := F)) 𝒱₀ () Set.univ := fun t => by
  rw [bigSep_W1, bigSep_W1]
  have e0 := owns_pt (F := F) c (st1_0 t) (hstage1_0 ((cfg1.slots t 0).cast nbuf1_0))
  have e1 := owns_pt (F := F) c (st1_1 t) (hstage1_1 ((cfg1.slots t 1).cast nbuf1_1))
  have e2 := owns_pt (F := F) c (st1_2 t) (hstage1_2 ((cfg1.slots t 2).cast nbuf1_2))
  simp only [e0, e1, e2]
  rw [show (dat1 V c).Φ t.castSucc = between V c t.val from rfl, show (dat1 V c).Φ t.succ = between V c (t.val + 1) from rfl,
    show (dat1 V c).owesAt () t.succ = (dat1 V c).owesAt () t.castSucc from rfl]
  unfold between
  iintro ⟨⟨Hr, %f, Hs, %hf⟩, Howes, ⟨%d0, %f2, %h2, H0⟩, ⟨%d1, %f3, %h3, H1⟩, ⟨%d2, %g, -, H2⟩⟩
  rw [before1_0] at h2
  rw [before1_1] at h3
  have hb := gather_body V c t (hw c t) f2 h2 f3 h3 g f hf
  iapply (wp_wand_r _ _ _)
  isplitl [H0 H1 H2 Hs]
  · iapply hb
    isplitl [H0]; · iexact H0
    isplitl [H1]; · iexact H1
    isplitl [H2] <;> iassumption
  iintro %a ⟨H0, H1, ⟨%g', H2, %hg⟩, ⟨%f', Hs, %hf'⟩⟩
  have ht : tableOf c (st1_0 t) (st1_1 t) f2 f3 = tableAt V c t := by unfold tableOf tableAt; rw [h2, h3]
  isplitl [Hr Hs]
  · isplitl [Hr]; · iexact Hr
    iexists f'
    isplitl [Hs]; · iexact Hs
    ipureintro
    intro t' e h8
    rw [hf', ht]
    exact tableAt_congr V c t t' (by omega)
  isplitl [Howes]; · iexact Howes
  isplitl [H0]
  · iexists _; isplitr; swap; (· iexact H0); ipureintro; exact h2
  isplitl [H1]
  · iexists _; isplitr; swap; (· iexact H1); ipureintro; exact h3
  iexists _; isplitr; swap; (· iexact H2); ipureintro; rw [hg, ht]; rfl

end Cert.Codebook
-- ==== Proof.Run.lean ====
/-
  The run of the whole program: three stretches of host operations, then the two kernels. Every run ends, with every
  counter at zero, the arguments as launched, and the result's array as the second region's data say.
-/
module

public import proofs.«01_k».proof.Proof.GatherRegion
public import proofs.«01_k».proof.Proof.Gen.KernelIdeal.Regions

@[expose] public section

noncomputable section

namespace Cert.Codebook

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UU nD τ) ℕ

variable (m : (ℓ : Loc nD τ sig) → Buf (Elt F) ℓ)

/-- The buffers after the first kernel. -/
def W4 (c : Dev nD) : Valuation τ sig (Elt F) := Pipeline.afterRegion (dat0 (V3 m) c) (V3 m c)

/-- The buffers after the second kernel. -/
def W5 (c : Dev nD) : Valuation τ sig (Elt F) := Pipeline.afterRegion (dat1 (W4 m) c) (W4 m c)

/-- The two regions' proof data. -/
def dats : (p : Fin 2) → (c : Dev nD) → Dat τ (Elt F) Unit ℕ (UU nD τ) ℕ (cfgs p) c
  | ⟨0, _⟩ => dat0 (V3 m)
  | ⟨1, _⟩ => dat1 (W4 m)

/-- The one level, at every semaphore of a TensorCore. -/
abbrev L : GSem nD τ sig → Finset Unit := fun g => if g.1.2 = .tc then {()} else ∅
abbrev lv : GSem nD τ sig → Unit → ℕ := fun _ _ => 0

/-- No core owes another anything. -/
abbrev owesNothing (c : Dev nD) : sProp 𝕄 := iprop(∃ W, owes (c : Thread nD τ) (0 : CellTallies nD τ sig Unit) W)

/-- What rides beside the buffers. -/
abbrev beside (_ : Fin 3) (c : Dev nD) : sProp 𝕄 := iprop(owesNothing c ∗ emp ∗ emp)

/-- Nothing is owed, so every wait sits below what is owed. -/
theorem levelCut (p : Fin 2) : Pipeline.LevelCut (pcfgs (F := F)) adm () L lv p (fun _ => 0) (fun _ => 0) where
  hι _ _ _ := by simp [L]
  hιb _ _ _ := le_refl _
  hD _ _ _ h := absurd h (lt_irrefl _)

/-- The first kernel's region, over the buffers. -/
def region0 : RegionSeg (pcfgs (F := F)) adm (dats m) () defs₀ 𝒱₀ L lv 0 :=
  RegionSeg.ofHeldIn (pcfgs (F := F)) adm (dats m) () defs₀ 𝒱₀ L lv 0 (fun _ => 0) (Pipeline.ucRefs τ sig)
    (fun _ => iprop(emp)) (fun _ => iprop(emp)) launch0.toP rfl
    (fun c => (obligation0 (V3 m) c).loose) (fun _ _ => rfl) (fun _ => rfl)
    (fun c => (dats m 0 c).share_full fun _ => rfl)
    (fun c => by
      show iprop(rest0 c ∗ emp) ⊢ (rest0 c : sProp 𝕄)
      iintro ⟨H, -⟩; iexact H)
    (fun c => by
      show rest0 c ⊢ (iprop(rest0 c ∗ emp) : sProp 𝕄)
      iintro H; isplitl [H]; · iexact H
      iempintro)
    (fun _ => 0) (levelCut 0) (fun _ => iprop(emp)) (V3 m) (fun _ _ => rfl)

/-- The second kernel's region, over the buffers, given that the words name rows of the table. -/
def region1 (hw : ∀ c t, WordsOk (words (W4 m) c t)) : RegionSeg (pcfgs (F := F)) adm (dats m) () defs₀ 𝒱₀ L lv 1 :=
  RegionSeg.ofHeldIn (pcfgs (F := F)) adm (dats m) () defs₀ 𝒱₀ L lv 1 (fun _ => 0) (Pipeline.ucRefs τ sig)
    (fun _ => iprop(emp)) (fun _ => iprop(emp)) launch1.toP rfl
    (fun c => (obligation1 (W4 m) hw c).loose) (fun _ _ => rfl) (fun _ => rfl)
    (fun c => (dats m 1 c).share_full fun _ => rfl)
    (fun c => by
      show iprop(Pipeline.scopedRest spec1 c ∗ emp) ⊢ between (W4 m) c 0
      rw [scopedRest1_eq]; unfold between
      iintro ⟨⟨H0, H1, H2, H3, %f, H4⟩, -⟩
      isplitl [H0 H1 H2 H3]
      · isplitl [H0]; · iexact H0
        isplitl [H1]; · iexact H1
        isplitl [H2]; · iexact H2
        iexact H3
      iexists f
      isplitl [H4]; · iexact H4
      ipureintro
      intro t ht h8
      omega)
    (fun c => by
      show between (W4 m) c grid1.N ⊢ iprop(Pipeline.scopedRest spec1 c ∗ emp)
      rw [scopedRest1_eq]; unfold between
      iintro ⟨⟨H0, H1, H2, H3⟩, %f, H4, -⟩
      isplitl
      · isplitl [H0]; · iexact H0
        isplitl [H1]; · iexact H1
        isplitl [H2]; · iexact H2
        isplitl [H3]; · iexact H3
        iexists f; iexact H4
      iempintro)
    (fun _ => 0) (levelCut 1) (fun _ => iprop(emp)) (W4 m) (fun _ _ => rfl)

/-- The arrays of the first kernel are among the buffers held. -/
theorem arrays0_sub : Pipeline.arrRefs (pcfgs (F := F) 0).spec ⊆ Pipeline.ucRefs τ sig :=
  (by decide : Pipeline.arrRefs (τ := τ) spec0 ⊆ Pipeline.ucRefs τ sig)

/-- The arrays of the second kernel are among the buffers held. -/
theorem arrays1_sub : Pipeline.arrRefs (pcfgs (F := F) 1).spec ⊆ Pipeline.ucRefs τ sig :=
  (by decide : Pipeline.arrRefs (τ := τ) spec1 ⊆ Pipeline.ucRefs τ sig)

/-- The first region is entered from what the host operations leave. -/
theorem entry0 (c : Dev nD) :
    iprop(StableHlo.held (c : Thread nD τ) (Pipeline.ucRefs τ sig) (V3 m c) ∗ beside 0 c) ⊢ (region0 m).pre c := by
  unfold region0
  refine BI.Entails.trans ?_ (RegionSeg.ofHeldIn_pre (S := Pipeline.ucRefs τ sig) arrays0_sub c)
  exact BI.Entails.refl _

/-- What the first region leaves. -/
theorem exit0 (c : Dev nD) :
    (region0 m).post c ⊢ iprop(StableHlo.held (c : Thread nD τ) (Pipeline.ucRefs τ sig) (W4 m c) ∗ beside 1 c) := by
  rw [show W4 m c = Pipeline.afterRegion (dats m 0 c) (V3 m c) from rfl]
  unfold region0
  exact RegionSeg.ofHeldIn_post (S := Pipeline.ucRefs τ sig) arrays0_sub c

/-- The second region is entered from what the first leaves. -/
theorem entry1 (hw : ∀ c t, WordsOk (words (W4 m) c t)) (c : Dev nD) :
    iprop(StableHlo.held (c : Thread nD τ) (Pipeline.ucRefs τ sig) (W4 m c) ∗ beside 1 c) ⊢ (region1 m hw).pre c := by
  unfold region1
  refine BI.Entails.trans ?_ (RegionSeg.ofHeldIn_pre (S := Pipeline.ucRefs τ sig) arrays1_sub c)
  exact BI.Entails.refl _

/-- What the second region leaves. -/
theorem exit1 (hw : ∀ c t, WordsOk (words (W4 m) c t)) (c : Dev nD) :
    (region1 m hw).post c ⊢ iprop(StableHlo.held (c : Thread nD τ) (Pipeline.ucRefs τ sig) (W5 m c) ∗ beside 2 c) := by
  rw [show W5 m c = Pipeline.afterRegion (dats m 1 c) (W4 m c) from rfl]
  unfold region1
  exact RegionSeg.ofHeldIn_post (S := Pipeline.ucRefs τ sig) arrays1_sub c

/-- The launch's resource, of the pipelines alone. -/
abbrev launchU : UU nD τ := initOf (Pipeline.cells cfgs cellOf_inj) (Pipeline.launchToks cfgs cellOf_inj)

set_option backward.isDefEq.respectTransparency.types false in
/-- Every run from zero counters ends with every counter at zero and every buffer at `W5`, given that the words name
    rows of the table. -/
theorem run_W5 (ρ : Dev nD → PrngReg) (hw : ∀ c t, WordsOk (words (W4 m) c t)) :
    θ_run defs (onTc (τ := τ) (main (F := F))) ⟨m, fun _ => 0, ρ⟩ (fun r =>
      (∀ c : Dev nD, ∀ b ∈ Pipeline.ucRefs τ sig, r.2.mem ((c.tc : Thread nD τ).1, b) = W5 m c b) ∧ r.2.sem = fun _ => 0) := by
  refine Pipeline.θ_run_regions_kit_dev_sems (pcfgs (F := F)) adm (dats m) () cellOf_inj
    emb₁ defs₀ 𝒱₀ L lv m ρ main
    (segs m 𝒱₀ L lv beside () (dats m) (region0 m) (region1 m hw))
    (fun c Q => by
      rewrite [main_chain c, Seg.run_eq_chain,
        show (segs m 𝒱₀ L lv beside () (dats m) (region0 m) (region1 m hw) c).map Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) launchU ?_
    (T₀ := fun c => iprop(StableHlo.held (c : Thread nD τ) (Pipeline.ucRefs τ sig) (V0 m c) ∗ beside 0 c))
    (Tₙ := fun c => StableHlo.held (c : Thread nD τ) (Pipeline.ucRefs τ sig) (W5 m c))
    (hch := fun c => ⟨.rfl, .rfl, .rfl, entry0 m c, (exit0 m c).trans (entry1 m hw c), (exit1 m hw c).trans (sep_mono .rfl (by
      iintro ⟨HO, -⟩; iexact HO))⟩)
    (hinit := ?_) (QY := fun c s => ∀ b ∈ Pipeline.ucRefs τ sig, s.mem ((c.tc : Thread nD τ).1, b) = W5 m c b)
    (hfin := fun c s' => ?_) (hQ := fun _ h hz => ⟨h, funext fun g => hz g (.inr (regions_no_unscoped g.2))⟩)
  · iintro Hu; imodintro
    isplitl [Hu]
    · iapply (show (ownU launchU : sProp 𝕄) ⊢ BI.own (emb₁ launchU) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UU nD τ) (Lvl := ℕ) c (V0 m c)]
    iintro ⟨⟨Hh, -, HO, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro; exact h
    · iexact HSI

/-- The result's array at the end, as the second region's data say. -/
theorem W5_result (c : Dev nD) : W5 m c (Proc.devRef .tc main_v5) = (dat1 (W4 m) c).arrAt 2 cfg1.N :=
  Pipeline.afterRegion_arr (dat1 (W4 m) c) (W4 m c) launch1.win.arr_inj 2

/-- The re-laid table as the second kernel finds it, as the first region's data say. -/
theorem W4_table (c : Dev nD) : W4 m c (Proc.devRef .tc main_v4) = (dat0 (V3 m) c).arrAt 1 cfg0.N :=
  Pipeline.afterRegion_arr (dat0 (V3 m) c) (V3 m c) launch0.win.arr_inj 1

/-- The words reach the second kernel as the host operations left them. -/
theorem W4_words (c : Dev nD) : W4 m c (Proc.devRef .tc main_v3) = V3 m c (Proc.devRef .tc main_v3) :=
  Pipeline.afterRegion_of_not_arr (dat0 (V3 m) c) (V3 m c) (by decide)

/-- The first argument ends as launched. -/
theorem W5_arg0 (c : Dev nD) : W5 m c (Proc.devRef .tc main_arg0) = m ((c : Thread nD τ).loc main_arg0) :=
  (Pipeline.afterRegion_of_not_arr (dat1 (W4 m) c) (W4 m c) (by decide)).trans <|
    (Pipeline.afterRegion_of_not_arr (dat0 (V3 m) c) (V3 m c) (by decide)).trans <|
    (V3_of m c main_arg0 (by decide)).trans <| (V2_of m c main_arg0 (by decide)).trans <| V1_of m c main_arg0 (by decide)

/-- The table reaches the first kernel as launched. -/
theorem V3_arg1 (c : Dev nD) : V3 m c (Proc.devRef .tc main_arg1) = m ((c : Thread nD τ).loc main_arg1) :=
  (V3_of m c main_arg1 (by decide)).trans <| (V2_of m c main_arg1 (by decide)).trans <| V1_of m c main_arg1 (by decide)

/-- The second argument ends as launched. -/
theorem W5_arg1 (c : Dev nD) : W5 m c (Proc.devRef .tc main_arg1) = m ((c : Thread nD τ).loc main_arg1) :=
  (Pipeline.afterRegion_of_not_arr (dat1 (W4 m) c) (W4 m c) (by decide)).trans <|
    ((Pipeline.afterRegion_arr (dat0 (V3 m) c) (V3 m c) launch0.win.arr_inj 0).trans
      ((dat0 (V3 m) c).arrAt_in 0 rfl _)).trans <| V3_arg1 m c

end Cert.Codebook
-- ==== Proof.Words.lean ====
/-
  The words that the second kernel is given: each is eight times its index, clamped to the table's rows.
-/
module

public import proofs.«01_k».proof.Proof.Run
public import Idealize.ShloMosaic.Lib.StableHlo.Run
public import Idealize.ShloMosaic.Lib.Claim

@[expose] public section

noncomputable section

namespace Cert.Codebook

open Cert.KernelIdeal Cert.KernelIdeal.Gen
open Idealize.ShloMosaic Idealize.ShloMosaic.TcCoe Idealize.ShloMosaic.Tactic
open Idealize.SL Idealize.SL.Sem

variable {F : FTy → Type} [FloatOps F]

/-- An index clamped to the table's 8192 rows. -/
def clampW (w : BitVec 32) : BitVec 32 := IntOp.minsi 8191#32 (IntOp.maxsi 0#32 w)

/-- A clamped index is a row of the table. -/
theorem clampW_le (w : BitVec 32) : (clampW w).toNat ≤ 8191 := by
  have hw := w.isLt
  unfold clampW IntOp.minsi IntOp.maxsi
  simp only [BitVec.slt_iff_toInt_lt, BitVec.toInt_eq_toNat_cond]
  split_ifs <;> simp_all <;> omega

/-- Eight times a clamped index does not wrap around. -/
theorem clampW_mul (w : BitVec 32) : (clampW w * 8#32).toNat = (clampW w).toNat * 8 := by
  have := clampW_le w
  rw [BitVec.toNat_mul]
  simp only [BitVec.toNat_ofNat]
  omega

variable (m : (ℓ : Loc nD τ sig) → Buf (Elt F) ℓ)

/-- The words before the second kernel, one by one. -/
theorem V3_words (c : Dev nD) (b : Fin 16) (i : Fin 4096) :
    (V3 m c (Proc.devRef .tc main_v3) : Vec F S16x1x4096 .i32) (ix3 b 0 i)
      = clampW ((m ((c : Thread nD τ).loc main_arg0) : Vec F S16x4096 .i32) (ix2 b i)) * 8#32 := by
  have h : (V3 m c (Proc.devRef .tc main_v3) : Vec F S16x1x4096 .i32)
      = shapeCast S16x1x4096 (muli (minsi (broadcastInDim S16x4096 ![] bcast_S_S16x4096 (constantI S_ 32 8191#32))
          (maxsi (broadcastInDim S16x4096 ![] bcast_S_S16x4096 (constantI S_ 32 0#32))
            (m ((c : Thread nD τ).loc main_arg0) : Vec F S16x4096 .i32)))
          (broadcastInDim S16x4096 ![] bcast_S_S16x4096 (constantI S_ 32 8#32))) shapeCasts_S16x4096_S16x1x4096 := by
    unfold V3 V2 V1
    after_results
    rfl
  rw [h]
  pointwise
  rfl

end Cert.Codebook
-- ==== Proof.RelaidTable.lean ====
/-
  What the first kernel leaves: row `8 v + r` of its result is the `r`-th eighth of row `v` of the table.
-/
module

public import proofs.«01_k».proof.Proof.Words
public import Idealize.ShloMosaic.Lib.Pipeline.Covers

@[expose] public section

noncomputable section

namespace Cert.Codebook

open Cert.KernelIdeal Cert.KernelIdeal.Gen
open Idealize.ShloMosaic Idealize.ShloMosaic.TcCoe Idealize.ShloMosaic.Tactic
open Idealize.SL Idealize.SL.Sem

variable {F : FTy → Type} [FloatOps F]

/-- The table laid out as rows of 128: row `p`, lane `l` is entry `128 (p % 8) + l` of row `p / 8`. -/
def relaid (T : Vec F S8192x1024 .f32) : Vec F S65536x128 .f32 := fun j =>
  T (ix2 ⟨(j 0).val / 8, by have := ValueIdx.idx2_lt0 j; omega⟩
    ⟨(j 0).val % 8 * 128 + (j 1).val, by have := ValueIdx.idx2_lt1 j; omega⟩)

/-- A block of 512 rows laid out as rows of 128. -/
theorem k0_pay1_apply (v : Vec F S512x1024 .f32) (y : S4096x128.Idx) :
    k0_pay1 v y = v (ix2 ⟨(y 0).val / 8, by have := ValueIdx.idx2_lt0 y; omega⟩
      ⟨(y 0).val % 8 * 128 + (y 1).val, by have := ValueIdx.idx2_lt1 y; omega⟩) := by
  unfold k0_pay1
  pointwise

variable (m : (ℓ : Loc nD τ sig) → Buf (Elt F) ℓ)

/-- After the first kernel its result's array is the table laid out as rows of 128. -/
theorem W4_relaid (c : Dev nD) :
    (W4 m c (Proc.devRef .tc main_v4) : Vec F S65536x128 .f32) = relaid (m ((c : Thread nD τ).loc main_arg1)) := by
  refine (W4_table m c).trans ?_
  refine (dat0 (V3 m) c).arrAt_eq_of_covers 1 _ (by decide +kernel) fun t hf y => ?_
  have ht : t.val < 16 := t.isLt.trans_eq N_0
  have hy0 : (y 0).val < 4096 := ValueIdx.idx2_lt0 (n0 := 4096) (n1 := 128) y
  show k0_pay1 (tableBlock (V3 m) c t) y = relaid (m ((c : Thread nD τ).loc main_arg1)) ((win0_1.blk t).view.emb y)
  rw [k0_pay1_apply]
  refine (block0_apply _ t _ (by show t.val * 512 + (y 0).val / 8 < 8192; omega)).trans ?_
  rw [V3_arg1]
  unfold relaid
  blk_ext [index0_1 t]

end Cert.Codebook
-- ==== Proof.Result.lean ====
/-
  What the kernel computes: entry `(b, d, i)` of its result is entry `d` of the table's row that index `(b, i)` names,
  the index clamped to the table's rows.
-/
module

public import proofs.«01_k».proof.Proof.RelaidTable

@[expose] public section

noncomputable section

namespace Cert.Codebook

open Cert.KernelIdeal Cert.KernelIdeal.Gen
open Idealize.ShloMosaic Idealize.ShloMosaic.TcCoe Idealize.ShloMosaic.Tactic
open Idealize.SL Idealize.SL.Sem

variable {F : FTy → Type} [FloatOps F]

/-- The table's rows that the indices name, clamped, each laid along the second axis. -/
def looked (I : Vec F S16x4096 .i32) (T : Vec F S8192x1024 .f32) : Vec F S16x1024x4096 .f32 := fun j =>
  T (ix2 ⟨(clampW (I (ix2 (j 0) (j 2)))).toNat, Nat.lt_succ_of_le (clampW_le _)⟩ (j 1))

/-- One eighth of a gathered table, transposed: entry `(0, l, i)` is entry `(8 i + s, l)` of the gathered table. -/
theorem outBlock_apply (i : grid1.Coords) (G : Vec F S32768x128 .f32) (y : S1x128x4096.Idx)
    (h : 8 * (y 2).val + (i 1).val < 32768) :
    outBlock i G y = G (ix2 ⟨8 * (y 2).val + (i 1).val, h⟩ (y 1)) := by
  unfold outBlock k1_pay2
  pointwise
  have e0 : k1_off4 i 0 = (i 1).val := by rw [k1_off4_eq]; rfl
  have e1 : k1_off4 i 1 = 0 := by rw [k1_off4_eq]; rfl
  congr 1
  funext a
  apply Fin.ext
  fin_cases a
  · show k1_off4 i 0 + 8 * (y 2).val = 8 * (y 2).val + (i 1).val
    omega
  · show k1_off4 i 1 + (y 1).val = (y 1).val
    omega

variable (m : (ℓ : Loc nD τ sig) → Buf (Elt F) ℓ)

/-- The words of point `t`, one by one. -/
theorem words_eq (c : Dev nD) (t : Fin cfg1.N) (y : S1x1x4096.Idx) (h : t.val / 8 < 16) :
    words (W4 m) c t y = clampW ((m ((c : Thread nD τ).loc main_arg0) : Vec F S16x4096 .i32) (ix2 ⟨t.val / 8, h⟩ (y 2))) * 8#32 := by
  unfold words
  refine (words_apply _ t y h).trans ?_
  rw [W4_words]
  exact V3_words m c _ _

/-- Every word names eight rows of the re-laid table. -/
theorem words_ok (c : Dev nD) (t : Fin cfg1.N) : WordsOk (words (W4 m) c t) := fun y => by
  have ht : t.val < 128 := t.isLt.trans_eq N_1
  rw [words_eq m c t y (by omega), clampW_mul]
  have := clampW_le ((m ((c : Thread nD τ).loc main_arg0) : Vec F S16x4096 .i32) (ix2 ⟨t.val / 8, by omega⟩ (y 2)))
  omega

/-- After the second kernel its result's array holds the table's rows that the indices name. -/
theorem W5_looked (c : Dev nD) : (W5 m c (Proc.devRef .tc main_v5) : Vec F S16x1024x4096 .f32)
    = looked (m ((c : Thread nD τ).loc main_arg0)) (m ((c : Thread nD τ).loc main_arg1)) := by
  refine (W5_result m c).trans ?_
  refine (dat1 (W4 m) c).arrAt_eq_of_covers 2 _ (by decide +kernel) fun t hf y => ?_
  have ht : t.val < 128 := t.isLt.trans_eq N_1
  blk_simp
  show outBlock (grid1.coords t) (tableAt (W4 m) c t) y
    = looked (m ((c : Thread nD τ).loc main_arg0)) (m ((c : Thread nD τ).loc main_arg1)) ((win1_2.blk t).view.emb y)
  have hc := coord1_1 t
  have hy1 : (y 1).val < 128 := (y 1).isLt
  have hy2 : (y 2).val < 4096 := (y 2).isLt
  rw [outBlock_apply _ _ _ (by omega)]
  have hw := words_eq m c t (ix3 0 0 (y 2)) (by omega)
  have hle := clampW_le ((m ((c : Thread nD τ).loc main_arg0) : Vec F S16x4096 .i32) (ix2 ⟨t.val / 8, by omega⟩ (y 2)))
  unfold tableAt
  rw [gathered_apply (words_ok m c t) (table (W4 m) c t) _ (y 2) (by
      show (8 * (y 2).val + (grid1.coords t 1).val) / 8 = (y 2).val; omega)
    (ix2 ⟨8 * (clampW ((m ((c : Thread nD τ).loc main_arg0) : Vec F S16x4096 .i32) (ix2 ⟨t.val / 8, by omega⟩ (y 2)))).toNat
      + t.val % 8, by omega⟩ (y 1)) (by
      rw [hw, clampW_mul]
      show 8 * (clampW _).toNat + t.val % 8 = (clampW _).toNat * 8 + (8 * (y 2).val + (grid1.coords t 1).val) % 8
      rw [Nat.mul_comm 8]
      congr 1
      omega) rfl]
  unfold table
  rw [table_read, W4_relaid]
  have he : (win1_2.blk t).view.emb y = (ix3 ⟨t.val / 8, by omega⟩ ⟨t.val % 8 * 128 + (y 1).val, by omega⟩ (y 2) : S16x1024x4096.Idx) := by
    blk_ext [index1_2 t]
  rw [he]
  unfold relaid looked
  refine congrArg (m ((c : Thread nD τ).loc main_arg1)) ?_
  funext a
  apply Fin.ext
  have h8 (n : Nat) : (8 * n + t.val % 8) / 8 = n := by omega
  fin_cases a
  · exact h8 _
  · show (8 * (clampW _).toNat + t.val % 8) % 8 * 128 + (y 1).val = t.val % 8 * 128 + (y 1).val
    omega

end Cert.Codebook
-- ==== Proof.Kernels.lean ====
/-
  The kernel's runs: what it computes, and that the kernel and its idealization, printed from one text, are one program,
  so that the first runs as the second does.
-/
module

public import proofs.«01_k».proof.Proof.Result
public import proofs.«01_k».proof.Proof.Gen.Kernel
public import Idealize.ShloMosaic.Lib.StableHlo.RunHlo

@[expose] public section

noncomputable section

namespace Cert.Codebook

open Idealize.ShloMosaic Idealize.ShloMosaic.TcCoe
open Idealize.SL Idealize.SL.Sem

variable {F : FTy → Type} [FloatOps F]

section Ideal

open Cert.KernelIdeal Cert.KernelIdeal.Gen

/-- The kernel runs to its end, its result the lookup, its arguments unchanged and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5)
          = looked (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (run_W5 m ρ (words_ok m)) fun _ h => ⟨fun c =>
    ⟨(h.1 c _ (Finset.mem_filter.mpr ⟨StableHlo.devRef_mem_tcRefs main_v5, by decide⟩)).trans (W5_looked m c),
      (h.1 c _ (Finset.mem_filter.mpr ⟨StableHlo.devRef_mem_tcRefs main_arg0, by decide⟩)).trans (W5_arg0 m c),
      (h.1 c _ (Finset.mem_filter.mpr ⟨StableHlo.devRef_mem_tcRefs main_arg1, by decide⟩)).trans (W5_arg1 m c)⟩, h.2⟩

end Ideal

/-! ## The kernel as printed -/

section Printed

variable [hK : Cert.Kernel.Facts] [hI : Cert.KernelIdeal.Facts]

set_option maxHeartbeats 4000000 in
/-- The two programs' tables of bodies hold the same bodies. -/
theorem defs₀_eq (p) : Cert.Kernel.defs₀ (F := F) p = Cert.KernelIdeal.defs₀ (F := F) p := by
  funext l a; cases p <;> fin_cases l
  all_goals with_unfolding_all rfl

set_option maxHeartbeats 4000000 in
/-- So do the tables that the launches' pipelines complete. -/
theorem defs_eq : Cert.Kernel.defs (F := F) = Cert.KernelIdeal.defs (F := F) := by
  funext p
  unfold Cert.Kernel.defs Cert.KernelIdeal.defs
  have := defs₀_eq (F := F)
  with_unfolding_all exact congrArg (fun d => Pipeline.defs Cert.KernelIdeal.pcfgs d p) (funext this)

set_option maxHeartbeats 4000000 in
/-- The two programs' host lines are the same. -/
theorem main_eq : Cert.Kernel.main (F := F) = Cert.KernelIdeal.main (F := F) := by
  funext d
  with_unfolding_all rfl

set_option maxHeartbeats 4000000 in
/-- What the idealization's run ends with, the kernel's run ends with. -/
theorem run_of_ideal (s : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq, main_eq]
  exact h

end Printed

end Cert.Codebook
-- ==== Proof.Reference.lean ====
/-
  What the reference computes: the same rows of the table, looked up by the same clamped indices.
-/
module

public import proofs.«01_k».proof.Proof.Result
public import proofs.«01_k».proof.Proof.Gen.ReferenceIdeal.Run
public import Idealize.ShloMosaic.Lib.ReduceAll
public import Idealize.ShloMosaic.Lib.Quiescent
public import Idealize.ShloMosaic.Lib.ValueIdxCore

@[expose] public section

noncomputable section

namespace Cert.Codebook.Reference

open Cert.ReferenceIdeal Cert.ReferenceIdeal.Gen
open Idealize.ShloMosaic Idealize.ShloMosaic.TcCoe Idealize.ShloMosaic.Tactic
open Idealize.SL Idealize.SL.Sem

variable {F : FTy → Type} [FloatOps F]

/-- The reference's gather: entry `(b, i, d)` is entry `d` of the row that the word at `(b, i, 0)` names, that word
read as a signed number and clamped to the table's rows. -/
theorem gather_apply {α : Type} (x : S8192x1024.Idx → α) (idx : IVec S16x4096x1 32) (y : S16x4096x1024.Idx) :
    Host.gather gather_S8192x1024_S16x4096x1_S16x4096x1024_2_0_n_n_0_2_11024 x idx y
      = x (ix2 ⟨min (idx (ix3 (y 0) (y 1) 0)).toInt.toNat 8191, by omega⟩ (y 2)) := by
  unfold Host.gather
  congr 1
  funext a
  refine Fin.ext ?_
  fin_cases a
  · show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (show (0 : Fin 2) ∈ ([0] : List (Fin 2)) by decide)).trans ?_
    refine congrArg (fun z => min (idx z).toInt.toNat 8191) ?_
    funext b
    refine Fin.ext ?_
    fin_cases b <;> rfl
  · show GatherDims.start _ y idx 1 + GatherDims.batchCoord _ y 1 + GatherDims.offCoord _ y 1 = _
    rw [GatherDims.batchCoord_eq_zero _ _ _ List.not_mem_nil]
    have h : GatherDims.start gather_S8192x1024_S16x4096x1_S16x4096x1024_2_0_n_n_0_2_11024 y idx 1 = 0 :=
      dif_neg (show ¬ (1 : Fin 2) ∈ ([0] : List (Fin 2)) by decide)
    rw [h, Nat.zero_add]
    rfl

/-- What the reference makes of a clamped index: one below zero would count from the table's end. -/
def wrapW (w : BitVec 32) : BitVec 32 := Scalar.select (IntOp.cmpi .slt w 0#32) (IntOp.addi w 8192#32) w

/-- A clamped index is the same number read signed and unsigned. -/
theorem clampW_toInt (w : BitVec 32) : (clampW w).toInt = (clampW w).toNat := by
  have := clampW_le w
  rw [BitVec.toInt_eq_toNat_of_lt]
  omega

/-- The row that a clamped index names in a gather, which clamps once more. -/
theorem row_clampW (w : BitVec 32) : min (clampW w).toInt.toNat 8191 = (clampW w).toNat := by
  have := clampW_toInt w
  have := clampW_le w
  omega

/-- A clamped index is not below zero and stays as it is. -/
theorem wrapW_clampW (w : BitVec 32) : wrapW (clampW w) = clampW w := by
  have h : IntOp.cmpi .slt (clampW w) 0#32 = 0#1 := by
    show BitVec.ofBool (decide ((clampW w).toInt < 0)) = 0#1
    rw [decide_eq_false (by have := clampW_toInt w; omega)]
    rfl
  unfold wrapW
  rw [h]
  rfl

/-- A clamped index passes the reference's test that it lies between 0 and 8191. -/
theorem inside (w : BitVec 32) :
    IntOp.andi (IntOp.cmpi .sge (clampW w) 0#32) (IntOp.cmpi .sle (clampW w) 8191#32) = 1#1 := by
  have h0 : IntOp.cmpi .sge (clampW w) 0#32 = 1#1 := by
    show BitVec.ofBool (decide (0 ≤ (clampW w).toInt)) = 1#1
    rw [decide_eq_true (by have := clampW_toInt w; omega)]
    rfl
  have h1 : IntOp.cmpi .sle (clampW w) 8191#32 = 1#1 := by
    show BitVec.ofBool (decide ((clampW w).toInt ≤ 8191)) = 1#1
    rw [decide_eq_true (by have := clampW_toInt w; have := clampW_le w; omega)]
    rfl
  rw [h0, h1]
  rfl

/-- The reference's clamped indices. -/
def clamped (I : Vec F S16x4096 .i32) : IVec S16x4096 32 :=
  minsi (broadcastInDim S16x4096 ![] bcast_S_S16x4096 (id (constantI S_ 32 8191#32)))
    (maxsi (broadcastInDim S16x4096 ![] bcast_S_S16x4096 (id (constantI S_ 32 0#32))) I)

/-- The reference's words: its clamped indices after the handling of negative ones, along a third axis of one. -/
def wrapped (I : Vec F S16x4096 .i32) : IVec S16x4096x1 32 :=
  broadcastInDim S16x4096x1 ![0, 1] bcast_S16x4096_S16x4096x1_0_1
    (select (cmpi .slt (clamped I) (broadcastInDim S16x4096 ![] bcast_S_S16x4096 (constantI S_ 32 0#32)))
      (addi (clamped I) (broadcastInDim S16x4096 ![] bcast_S_S16x4096 (constantI S_ 32 8192#32))) (clamped I))

/-- One clamped index. -/
theorem clamped_apply (I : Vec F S16x4096 .i32) (i : S16x4096.Idx) : clamped I i = clampW (I i) := by
  unfold clamped
  pointwise
  rfl

/-- One word: the clamped index, which the handling of negative ones leaves as it is. -/
theorem wrapped_apply (I : Vec F S16x4096 .i32) (i : S16x4096x1.Idx) : wrapped I i = clampW (I (ix2 (i 0) (i 1))) := by
  refine Eq.trans ?_ (wrapW_clampW _)
  unfold wrapped
  pointwise
  rw [clamped_apply]
  rfl

/-- The word of row `b`, place `i`. -/
theorem wrapped_row (I : Vec F S16x4096 .i32) (b : Fin 16) (i : Fin 4096) :
    wrapped I (ix3 b i 0) = clampW (I (ix2 b i)) :=
  (wrapped_apply I _).trans (congrArg (fun z => clampW (I z)) (by funext a; fin_cases a <;> rfl))

/-- The reference's test, at every index, that the word lies between 0 and 8191. -/
def tested (I : Vec F S16x4096 .i32) : IVec S16x4096x1 1 :=
  andi (cmpi .sge (wrapped I) (broadcastInDim S16x4096x1 ![] bcast_S_S16x4096x1 (constantI S_ 32 0#32)))
    (cmpi .sle (wrapped I) (broadcastInDim S16x4096x1 ![0, 1, 2] bcast_S1x1x1_S16x4096x1_0_1_2
      (broadcastInDim S1x1x1 ![2] bcast_S1_S1x1x1_2 (constantI S1 32 8191#32))))

/-- Every word passes the test. -/
theorem tested_apply (I : Vec F S16x4096 .i32) (i : S16x4096x1.Idx) : tested I i = 1#1 := by
  unfold tested
  pointwise
  rw [wrapped_apply]
  exact inside _

/-- The composed term of the reference's operations is the lookup: every test passes, so every entry is the
gathered one. -/
theorem value (I : Vec F S16x4096 .i32) (T : Vec F S8192x1024 .f32) :
    transpose S16x1024x4096 [0, 2, 1]
      (select (broadcastInDim S16x4096x1024 ![0, 1] bcast_S16x4096_S16x4096x1024_0_1
          (Host.reduce IntOp.andi (tested I) (constantI S_ 1 1#1) reducesTo_S16x4096x1_S16x4096_d2 h_S_))
        (Host.gather gather_S8192x1024_S16x4096x1_S16x4096x1024_2_0_n_n_0_2_11024 T (wrapped I))
        (broadcastInDim S16x4096x1024 ![] bcast_S_S16x4096x1024 (constant S_ .f32 0x7FC00000#32)))
      transposes_S16x4096x1024_S16x1024x4096_0_2_1 = looked I T := by
  have hR : Host.reduce IntOp.andi (tested I) (constantI S_ 1 1#1) reducesTo_S16x4096x1_S16x4096_d2 h_S_
      = fun _ => 1#1 :=
    funext fun j => Host.reduce_andi_one _ _ _ _ j rfl (tested_apply I)
  rw [hR]
  funext j
  pointwise
  rw [gather_apply]
  unfold looked
  refine congrArg T (congrArg₂ ix2 (Fin.ext ?_) rfl)
  refine Eq.trans ?_ (row_clampW (I (ix2 (j 0) (j 2))))
  exact congrArg (fun w : BitVec 32 => min w.toInt.toNat 8191) (wrapped_row I (j 0) (j 2))

/-- The reference runs to its end, its result the lookup, its arguments unchanged and every counter at zero. -/
theorem run (m : (ℓ : Loc nD τ sig) → Buf (Elt F) ℓ)
    (ρ : Dev nD → PrngReg) : θ_run defs (onTc (τ := τ) (main (F := F))) ⟨m, fun _ => 0, ρ⟩ fun r =>
      (∀ c : Dev nD, r.2.mem ((c.tc : Thread nD τ).loc main_v2)
          = looked (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => ⟨(h c).1.trans (value _ _), (h c).2⟩,
    sem_eq_zero_of_no_sems rfl _⟩) (Cert.ReferenceIdeal.Value.run m ρ)

end Cert.Codebook.Reference
-- ==== Proof.lean ====
/-
  The claims about the codebook lookup, put together. The kernel's idealization ends with the table's rows that the
  clamped indices name, its arguments unchanged and its counters at zero (Proof/Kernels.lean, `run`); the kernel, the
  same program at another reading of its numbers, does too (`run_of_ideal`); and so does the reference
  (Proof/Reference.lean, `run`). Each frame is a part of a run; the algebraic claim is the two runs side by side.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernels
public import proofs.«01_k».proof.Proof.Reference

@[expose] public section

noncomputable section

namespace Cert.Proof

open Idealize.ShloMosaic Idealize.SL.Sem

/-- The kernel's idealization runs, leaves its arguments as they were and its counters at zero. -/
theorem frame_ideal : Cert.quiescent_KernelIdeal (hKernelIdeal := Cert.KernelIdeal.Gen.facts) := fun m g _ =>
  θ_run_mono (Cert.Codebook.run m g) fun _ h => ⟨fun c => (h.1 c).2, h.2⟩

/-- So does the kernel, which is the same program. -/
theorem frame_kernel : Cert.quiescent_Kernel (hKernel := Cert.Kernel.Gen.facts) := fun m g _ =>
  θ_run_mono (Cert.Codebook.run_of_ideal _ _ (Cert.Codebook.run (F := Bits) m g)) fun _ h => ⟨fun c => (h.1 c).2, h.2⟩

/-- So does the reference. -/
theorem frame_reference : Cert.quiescent_ReferenceIdeal (hReferenceIdeal := Cert.ReferenceIdeal.Gen.facts) :=
  fun m g _ => θ_run_mono (Cert.Codebook.Reference.run m g) fun _ h => ⟨fun c => (h.1 c).2, h.2⟩

/-- From equal arguments the kernel's idealization and the reference end with the same lookup. -/
theorem same_result : Cert.algebraic_KernelIdeal_ReferenceIdeal (hKernelIdeal := Cert.KernelIdeal.Gen.facts)
    (hReferenceIdeal := Cert.ReferenceIdeal.Gen.facts) := fun m g m' g' _ hagree =>
  ⟨fun c => Cert.Codebook.looked (F := Ideal) (m ((c.tc : Thread _ _).loc Cert.KernelIdeal.main_arg0))
      (m ((c.tc : Thread _ _).loc Cert.KernelIdeal.main_arg1)),
    θ_run_mono (Cert.Codebook.run m g) fun _ h => h.1,
    θ_run_mono (Cert.Codebook.Reference.run m' g') fun _ h c => ⟨(h.1 c).1.trans
      (congrArg₂ (Cert.Codebook.looked (F := Ideal)) (hagree c).1 (hagree c).2), (h.1 c).2⟩⟩

/-- Every claim. -/
theorem claim : Cert.Claim := ⟨Cert.Kernel.Gen.facts, Cert.KernelIdeal.Gen.facts, Cert.ReferenceIdeal.Gen.facts,
  frame_kernel, frame_ideal, frame_reference, trivial, same_result⟩

end Cert.Proof

end
